-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S800000x17 : Shape := ⟨2, ![800000, 17]⟩
abbrev S4x64 : Shape := ⟨2, ![4, 64]⟩
abbrev S16x64 : Shape := ⟨2, ![16, 64]⟩
abbrev S64 : Shape := ⟨1, ![64]⟩
abbrev S128 : Shape := ⟨1, ![128]⟩
abbrev S800000x1 : Shape := ⟨2, ![800000, 1]⟩
abbrev S800000 : Shape := ⟨1, ![800000]⟩
abbrev S_ : Shape := ⟨0, ![]⟩

class Facts : Prop where
  slices_S800000x17_S800000x1_0_0 : S800000x17.Slices ![0, 0] S800000x1
  shapeCasts_S800000x1_S800000 : S800000x1.ShapeCasts S800000
  bcast_S_S800000x17 : S_.BroadcastsInDim S800000x17 (![] : Fin 0 → Fin S800000x17.rank)
  bcast_S_S800000 : S_.BroadcastsInDim S800000 (![] : Fin 0 → Fin S800000.rank)
  bcast_S_S4x64 : S_.BroadcastsInDim S4x64 (![] : Fin 0 → Fin S4x64.rank)
  bcast_S_S16x64 : S_.BroadcastsInDim S16x64 (![] : Fin 0 → Fin S16x64.rank)
  bcast_S_S64 : S_.BroadcastsInDim S64 (![] : Fin 0 → Fin S64.rank)
  bcast_S_S128 : S_.BroadcastsInDim S128 (![] : Fin 0 → Fin S128.rank)

variable [Facts]

def fn_part1 {F : FTy → Type} [FloatOps F] (main_arg4 : FVec F S128 .f32) (main_arg5 : FVec F S128 .f32) (main_v4 : IVec S800000x17 1) (main_v9 : IVec S800000 1) (main_v12 : IVec S4x64 1) (main_v15 : IVec S16x64 1) (main_v16 : FVec F S64 .f32) (main_v17 : FVec F S64 .f32) : IVec S800000x17 1 × IVec S800000 1 × IVec S4x64 1 × IVec S16x64 1 × IVec S64 1 × IVec S128 1 × IVec S128 1 :=
  let main_v18 : IVec S64 1 := cmpf .olt main_v16 main_v17
  let main_cst_5 : FVec F S_ .f32 := constant S_ .f32 0x3F800000#32
  let main_v19 : FVec F S128 .f32 := broadcastInDim S128 ![] bcast_S_S128 main_cst_5
  let main_v20 : IVec S128 1 := cmpf .oeq main_arg4 main_v19
  let main_cst_6 : FVec F S_ .f32 := constant S_ .f32 0x00000000#32
  let main_v21 : FVec F S128 .f32 := broadcastInDim S128 ![] bcast_S_S128 main_cst_6
  let main_v22 : IVec S128 1 := cmpf .oeq main_arg5 main_v21
  (main_v4, main_v9, main_v12, main_v15, main_v18, main_v20, main_v22)

def fn {F : FTy → Type} [FloatOps F] (main_arg0 : FVec F S800000x17 .f32) (main_arg1 : FVec F S4x64 .f32) (main_arg2 : FVec F S16x64 .f32) (main_arg3 : FVec F S64 .f32) (main_arg4 : FVec F S128 .f32) (main_arg5 : FVec F S128 .f32) : IVec S800000x17 1 × IVec S800000 1 × IVec S4x64 1 × IVec S16x64 1 × IVec S64 1 × IVec S128 1 × IVec S128 1 :=
  let main_v0 : FVec F S800000x1 .f32 := (extractStridedSlice S800000x1 ![0, 0] · slices_S800000x17_S800000x1_0_0) main_arg0
  let main_v1 : FVec F S800000 .f32 := shapeCast S800000 main_v0 shapeCasts_S800000x1_S800000
  let main_v2 : FVec F S800000x17 .f32 := Host.absf main_arg0
  let main_cst : FVec F S_ .f32 := constant S_ .f32 0x7F800000#32
  let main_v3 : FVec F S800000x17 .f32 := broadcastInDim S800000x17 ![] bcast_S_S800000x17 main_cst
  let main_v4 : IVec S800000x17 1 := cmpf .olt main_v2 main_v3
  let main_cst_0 : FVec F S_ .f32 := constant S_ .f32 0xBF800000#32
  let main_v5 : FVec F S800000 .f32 := broadcastInDim S800000 ![] bcast_S_S800000 main_cst_0
  let main_v6 : IVec S800000 1 := cmpf .ogt main_v1 main_v5
  let main_cst_1 : FVec F S_ .f32 := constant S_ .f32 0x40800000#32
  let main_v7 : FVec F S800000 .f32 := broadcastInDim S800000 ![] bcast_S_S800000 main_cst_1
  let main_v8 : IVec S800000 1 := cmpf .olt main_v1 main_v7
  let main_v9 : IVec S800000 1 := andi main_v6 main_v8
  let main_v10 : FVec F S4x64 .f32 := Host.absf main_arg1
  let main_cst_2 : FVec F S_ .f32 := constant S_ .f32 0x7F800000#32
  let main_v11 : FVec F S4x64 .f32 := broadcastInDim S4x64 ![] bcast_S_S4x64 main_cst_2
  let main_v12 : IVec S4x64 1 := cmpf .olt main_v10 main_v11
  let main_v13 : FVec F S16x64 .f32 := Host.absf main_arg2
  let main_cst_3 : FVec F S_ .f32 := constant S_ .f32 0x7F800000#32
  let main_v14 : FVec F S16x64 .f32 := broadcastInDim S16x64 ![] bcast_S_S16x64 main_cst_3
  let main_v15 : IVec S16x64 1 := cmpf .olt main_v13 main_v14
  let main_v16 : FVec F S64 .f32 := Host.absf main_arg3
  let main_cst_4 : FVec F S_ .f32 := constant S_ .f32 0x7F800000#32
  let main_v17 : FVec F S64 .f32 := broadcastInDim S64 ![] bcast_S_S64 main_cst_4
  fn_part1 (F := F) main_arg4 main_arg5 main_v4 main_v9 main_v12 main_v15 main_v16 main_v17
-- ==== Kernel.lean ====
abbrev S800000x17 : Shape := ⟨2, ![800000, 17]⟩
abbrev S4x64 : Shape := ⟨2, ![4, 64]⟩
abbrev S16x64 : Shape := ⟨2, ![16, 64]⟩
abbrev S64 : Shape := ⟨1, ![64]⟩
abbrev S128 : Shape := ⟨1, ![128]⟩
abbrev S_ : Shape := ⟨0, ![]⟩
abbrev S17x128 : Shape := ⟨2, ![17, 128]⟩
abbrev S1 : Shape := ⟨1, ![1]⟩
abbrev S2 : Shape := ⟨1, ![2]⟩
abbrev S1x64 : Shape := ⟨2, ![1, 64]⟩
abbrev S1x128 : Shape := ⟨2, ![1, 128]⟩
abbrev S3 : Shape := ⟨1, ![3]⟩
abbrev S8x128 : Shape := ⟨2, ![8, 128]⟩
abbrev S3x64 : Shape := ⟨2, ![3, 64]⟩
abbrev S128x128 : Shape := ⟨2, ![128, 128]⟩
abbrev S800000x128 : Shape := ⟨2, ![800000, 128]⟩
abbrev S20000x17 : Shape := ⟨2, ![20000, 17]⟩
abbrev S20000x128 : Shape := ⟨2, ![20000, 128]⟩
abbrev S20000x1 : Shape := ⟨2, ![20000, 1]⟩
abbrev S20000x8 : Shape := ⟨2, ![20000, 8]⟩

abbrev nBuf : Space → Nat
  | .hbm => 56
  | .vmem => 11
  | .smem => 0
  | _ => 0

abbrev bufTy : (tb : Table) → Fin (tcTables nBuf tb) → BufTy
  | .hbm, ⟨0, _⟩ => ⟨S800000x17, .f32⟩
  | .hbm, ⟨1, _⟩ => ⟨S4x64, .f32⟩
  | .hbm, ⟨2, _⟩ => ⟨S16x64, .f32⟩
  | .hbm, ⟨3, _⟩ => ⟨S64, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S17x128, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S17x128, .f32⟩
  | .hbm, ⟨14, _⟩ => ⟨S1x64, .f32⟩
  | .hbm, ⟨15, _⟩ => ⟨S64, .f32⟩
  | .hbm, ⟨16, _⟩ => ⟨S128, .f32⟩
  | .hbm, ⟨17, _⟩ => ⟨S1x128, .f32⟩
  | .hbm, ⟨18, _⟩ => ⟨S_, .f32⟩
  | .hbm, ⟨19, _⟩ => ⟨S128, .f32⟩
  | .hbm, ⟨20, _⟩ => ⟨S3, .f32⟩
  | .hbm, ⟨21, _⟩ => ⟨S_, .f32⟩
  | .hbm, ⟨22, _⟩ => ⟨S3, .f32⟩
  | .hbm, ⟨23, _⟩ => ⟨S3, .f32⟩
  | .hbm, ⟨24, _⟩ => ⟨S_, .i32⟩
  | .hbm, ⟨25, _⟩ => ⟨S1, .i32⟩
  | .hbm, ⟨26, _⟩ => ⟨S128, .f32⟩
  | .hbm, ⟨27, _⟩ => ⟨S_, .f32⟩
  | .hbm, ⟨28, _⟩ => ⟨S8x128, .f32⟩
  | .hbm, ⟨29, _⟩ => ⟨S3x64, .f32⟩
  | .hbm, ⟨30, _⟩ => ⟨S3x64, .f32⟩
  | .hbm, ⟨31, _⟩ => ⟨S3x64, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S8x128, .f32⟩
  | .hbm, ⟨38, _⟩ => ⟨S_, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S128, .f32⟩
  | .hbm, ⟨44, _⟩ => ⟨S_, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S128, .f32⟩
  | .hbm, ⟨50, _⟩ => ⟨S1x128, .f32⟩
  | .hbm, ⟨51, _⟩ => ⟨S_, .f32⟩
  | .hbm, ⟨52, _⟩ => ⟨S128x128, .f32⟩
  | .hbm, ⟨53, _⟩ => ⟨S1x128, .f32⟩
  | .hbm, ⟨54, _⟩ => ⟨S1x128, .f32⟩
  | .hbm, ⟨55, _⟩ => ⟨S800000x128, .f32⟩
  | .local _ .vmem, ⟨0, _⟩ => ⟨S20000x17, .f32⟩
  | .local _ .vmem, ⟨1, _⟩ => ⟨S20000x17, .f32⟩
  | .local _ .vmem, ⟨2, _⟩ => ⟨S17x128, .f32⟩
  | .local _ .vmem, ⟨3, _⟩ => ⟨S1x128, .f32⟩
  | .local _ .vmem, ⟨4, _⟩ => ⟨S1x128, .f32⟩
  | .local _ .vmem, ⟨5, _⟩ => ⟨S8x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S20000x128, .f32⟩
  | .local _ .vmem, ⟨10, _⟩ => ⟨S20000x128, .f32⟩
  | _, _ => ⟨S800000x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_cst_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_9 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x17 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S17x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S20000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S800000x17 : Shape := ⟨2, ![800000, 17]⟩
abbrev S4x64 : Shape := ⟨2, ![4, 64]⟩
abbrev S16x64 : Shape := ⟨2, ![16, 64]⟩
abbrev S64 : Shape := ⟨1, ![64]⟩
abbrev S128 : Shape := ⟨1, ![128]⟩
abbrev S800000x1 : Shape := ⟨2, ![800000, 1]⟩
abbrev S800000 : Shape := ⟨1, ![800000]⟩
abbrev S_ : Shape := ⟨0, ![]⟩
abbrev S1 : Shape := ⟨1, ![1]⟩
abbrev S1x1 : Shape := ⟨2, ![1, 1]⟩
abbrev S800000x64 : Shape := ⟨2, ![800000, 64]⟩
abbrev S800000x16 : Shape := ⟨2, ![800000, 16]⟩
abbrev S1x64 : Shape := ⟨2, ![1, 64]⟩
abbrev S800000x128 : Shape := ⟨2, ![800000, 128]⟩
abbrev S1x128 : Shape := ⟨2, ![1, 128]⟩

abbrev nBuf : Space → Nat
  | .hbm => 91
  | .vmem => 0
  | .smem => 0
  | _ => 0

abbrev bufTy : (tb : Table) → Fin (tcTables nBuf tb) → BufTy
  | .hbm, ⟨0, _⟩ => ⟨S800000x17, .f32⟩
  | .hbm, ⟨1, _⟩ => ⟨S4x64, .f32⟩
  | .hbm, ⟨2, _⟩ => ⟨S16x64, .f32⟩
  | .hbm, ⟨3, _⟩ => ⟨S64, .f32⟩
  | .hbm, ⟨4, _⟩ => ⟨S128, .f32⟩
  | .hbm, ⟨5, _⟩ => ⟨S128, .f32⟩
  | .hbm, ⟨6, _⟩ => ⟨S800000x1, .f32⟩
  | .hbm, ⟨7, _⟩ => ⟨S800000, .f32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S1, .i32⟩
  | .hbm, ⟨18, _⟩ => ⟨S_, .i32⟩
  | .hbm, ⟨19, _⟩ => ⟨S800000x1, .i32⟩
  | .hbm, ⟨20, _⟩ => ⟨S800000x1, .i1⟩
  | .hbm, ⟨21, _⟩ => ⟨S1x1, .i32⟩
  | .hbm, ⟨22, _⟩ => ⟨S800000x1, .i32⟩
  | .hbm, ⟨23, _⟩ => ⟨S800000x1, .i1⟩
  | .hbm, ⟨24, _⟩ => ⟨S800000x1, .i1⟩
  | .hbm, ⟨25, _⟩ => ⟨S_, .i1⟩
  | .hbm, ⟨26, _⟩ => ⟨S800000, .i1⟩
  | .hbm, ⟨27, _⟩ => ⟨S800000x64, .f32⟩
  | .hbm, ⟨28, _⟩ => ⟨S800000x64, .i1⟩
  | .hbm, ⟨29, _⟩ => ⟨S_, .f32⟩
  | .hbm, ⟨30, _⟩ => ⟨S800000x64, .f32⟩
  | .hbm, ⟨31, _⟩ => ⟨S800000x64, .f32⟩
  | .hbm, ⟨32, _⟩ => ⟨S800000x16, .f32⟩
  | .hbm, ⟨33, _⟩ => ⟨S800000x64, .f32⟩
  | .hbm, ⟨34, _⟩ => ⟨S1x64, .f32⟩
  | .hbm, ⟨35, _⟩ => ⟨S800000x64, .f32⟩
  | .hbm, ⟨36, _⟩ => ⟨S800000x64, .f32⟩
  | .hbm, ⟨37, _⟩ => ⟨S_, .f32⟩
  | .hbm, ⟨38, _⟩ => ⟨S800000x64, .f32⟩
  | .hbm, ⟨39, _⟩ => ⟨S800000x64, .f32⟩
  | .hbm, ⟨40, _⟩ => ⟨S800000x64, .f32⟩
  | .hbm, ⟨41, _⟩ => ⟨S_, .f32⟩
  | .hbm, ⟨42, _⟩ => ⟨S800000x64, .f32⟩
  | .hbm, ⟨43, _⟩ => ⟨S800000x64, .f32⟩
  | .hbm, ⟨44, _⟩ => ⟨S800000x64, .f32⟩
  | .hbm, ⟨45, _⟩ => ⟨S800000x64, .f32⟩
  | .hbm, ⟨46, _⟩ => ⟨S800000x128, .f32⟩
  | .hbm, ⟨47, _⟩ => ⟨S_, .f32⟩
  | .hbm, ⟨48, _⟩ => ⟨S800000, .f32⟩
  | .hbm, ⟨49, _⟩ => ⟨S800000x1, .f32⟩
  | .hbm, ⟨50, _⟩ => ⟨S_, .f32⟩
  | .hbm, ⟨51, _⟩ => ⟨S800000x1, .f32⟩
  | .hbm, ⟨52, _⟩ => ⟨S800000x1, .f32⟩
  | .hbm, ⟨53, _⟩ => ⟨S_, .i32⟩
  | .hbm, ⟨54, _⟩ => ⟨S_, .f32⟩
  | .hbm, ⟨55, _⟩ => ⟨S800000, .f32⟩
  | .hbm, ⟨56, _⟩ => ⟨S800000x1, .f32⟩
  | .hbm, ⟨57, _⟩ => ⟨S_, .f32⟩
  | .hbm, ⟨58, _⟩ => ⟨S800000x1, .f32⟩
  | .hbm, ⟨59, _⟩ => ⟨S800000x1, .f32⟩
  | .hbm, ⟨60, _⟩ => ⟨S800000x128, .f32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S800000, .f32⟩
  | .hbm, ⟨68, _⟩ => ⟨S800000x1, .f32⟩
  | .hbm, ⟨69, _⟩ => ⟨S800000x1, .f32⟩
  | .hbm, ⟨70, _⟩ => ⟨S800000x1, .f32⟩
  | .hbm, ⟨71, _⟩ => ⟨S_, .f32⟩
  | .hbm, ⟨72, _⟩ => ⟨S_, .i1⟩
  | .hbm, ⟨73, _⟩ => ⟨S_, .f32⟩
  | .hbm, ⟨74, _⟩ => ⟨S_, .f32⟩
  | .hbm, ⟨75, _⟩ => ⟨S800000x1, .f32⟩
  | .hbm, ⟨76, _⟩ => ⟨S800000x1, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S800000x1, .f32⟩
  | .hbm, ⟨81, _⟩ => ⟨S800000x1, .f32⟩
  | .hbm, ⟨82, _⟩ => ⟨S800000x1, .f32⟩
  | .hbm, ⟨83, _⟩ => ⟨S800000x128, .f32⟩
  | .hbm, ⟨84, _⟩ => ⟨S800000x128, .f32⟩
  | .hbm, ⟨85, _⟩ => ⟨S1x128, .f32⟩
  | .hbm, ⟨86, _⟩ => ⟨S800000x128, .f32⟩
  | .hbm, ⟨87, _⟩ => ⟨S800000x128, .f32⟩
  | .hbm, ⟨88, _⟩ => ⟨S1x128, .f32⟩
  | .hbm, ⟨89, _⟩ => ⟨S800000x128, .f32⟩
  | .hbm, ⟨90, _⟩ => ⟨S800000x128, .f32⟩
  | _, _ => ⟨S800000x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_0 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_1 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_v20 : Ref sig .tc := ⟨.hbm, 52, rfl⟩
abbrev main_c : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_cst_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_cst_1 : Ref sig .tc := ⟨.hbm, 64, rfl⟩
abbrev main_call1_v8 : Ref sig .tc := ⟨.hbm, 65, rfl⟩
abbrev main_call1_cst_2 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_v12 : Ref sig .tc := ⟨.hbm, 70, rfl⟩
abbrev main_call1_cst_3 : Ref sig .tc := ⟨.hbm, 71, rfl⟩
abbrev main_call1_v13 : Ref sig .tc := ⟨.hbm, 72, rfl⟩
abbrev main_call1_cst_4 : Ref sig .tc := ⟨.hbm, 73, rfl⟩
abbrev main_call1_call0_v0 : Ref sig .tc := ⟨.hbm, 74, rfl⟩
abbrev main_call1_call0_v1 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_cst_3 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩

abbrev nD : Nat := 1
abbrev τ : Topo := Topo.v7x

variable {F : FTy → Type} [FloatOps F]
-- ==== Proof.RowForms.lean ====
/- One row of the result as the kernel computes it, over the extended reals: plain functions of the row and of the
   tables, with no program in them. -/
module

public import Idealize.ShloMosaic.Lib.Pointwise

@[expose] public section

noncomputable section

namespace Cert.RowForms

open Idealize.ShloMosaic

/-- One where the edge type `t` has reached the threshold `a`, zero where it has not: the comparison bit, widened to a
    word and read as a float. -/
def step (a t : EReal) : EReal :=
  FloatOps.sitofp (F := Ideal) FTy.f32 (BitVec.setWidth 32 (BitVec.ofBool (decide (a ≤ t))))

/-- Column `l` of a row before the activation: the row times the weight table, the steps reached times the table of
    differences, and the bias. -/
def pre (x : Fin 17 → EReal) (thr : Fin 128 → EReal) (w : Fin 17 → Fin 128 → EReal) (d : Fin 8 → Fin 128 → EReal)
    (b : Fin 128 → EReal) (l : Fin 128) : EReal :=
  ∑ k, x k * w k l + ∑ k : Fin 8, step (thr ⟨k.val, by omega⟩) (x 0) * d k l + b l

/-- Column `l` of a row after the activation `(z q) (1 + erf (z c))`. -/
def act (x : Fin 17 → EReal) (thr : Fin 128 → EReal) (w : Fin 17 → Fin 128 → EReal) (d : Fin 8 → Fin 128 → EReal)
    (b q c : Fin 128 → EReal) (l : Fin 128) : EReal :=
  pre x thr w d b l * q l * (1 + Ideal.erf (pre x thr w d b l * c l))

/-- A row `v` normalised at column `l`, mean and mean of squares taken by the averaging table `a`. -/
def normed (v : Fin 128 → EReal) (a : Fin 128 → Fin 128 → EReal) (l : Fin 128) : EReal :=
  (v l - ∑ k, v k * a k l)
    * Ideal.rsqrt (∑ k, v k * v k * a k l - (∑ k, v k * a k l) * (∑ k, v k * a k l) + Ideal.ofBits .f32 0x3727C5AC#32)

end Cert.RowForms

end
-- ==== Proof.KernelBlock.lean ====
/- What one block of the kernel computes, entry by entry: the activated row normalised (`RowForms`). -/
module

public import proofs.«01_k».proof.Proof.Gen.KernelIdeal.Skeleton
public import proofs.«01_k».proof.Proof.RowForms

@[expose] public section

set_option maxRecDepth 16384

noncomputable section

namespace Cert.KernelBlock

open Cert.KernelIdeal Cert.KernelIdeal.Gen Idealize.ShloMosaic Cert.RowForms

variable (v0 : Vec Ideal S20000x17 .f32) (v2 : Vec Ideal S1x128 .f32) (v9 : Vec Ideal S17x128 .f32)
  (v13 : Vec Ideal S8x128 .f32) (v17 v21 v25 : Vec Ideal S1x128 .f32) (v33 : Vec Ideal S128x128 .f32)

/-- Row `r` of the activated block is the activated row `r` of the input block. -/
theorem act_apply (r : Fin 20000) (l : Fin 128) :
    k0_pay2 (F := Ideal) v0 v2 v9 v13 v17 v21 v25 (ix2 r l)
      = act (fun k => v0 (ix2 r k)) (fun k => v2 (ix2 0 k)) (fun k n => v9 (ix2 k n)) (fun k n => v13 (ix2 k n))
          (fun n => v17 (ix2 0 n)) (fun n => v21 (ix2 0 n)) (fun n => v25 (ix2 0 n)) l := by
  pointwise [k0_pay2]
  rfl

/-- The mean's payload: the activated row times the averaging table. -/
theorem mean_apply (r : Fin 20000) (l : Fin 128) :
    k0_pay4 (F := Ideal) v0 v2 v9 v13 v17 v21 v25 v33 (ix2 r l)
      = ∑ k, k0_pay2 (F := Ideal) v0 v2 v9 v13 v17 v21 v25 (ix2 r k) * v33 (ix2 k l) := by
  pointwise [k0_pay4, k0_pay3]

/-- The mean of squares' payload: the squared activated row times the averaging table. -/
theorem square_apply (r : Fin 20000) (l : Fin 128) :
    k0_pay5 (F := Ideal) v0 v2 v9 v13 v17 v21 v25 v33 (ix2 r l)
      = ∑ k, k0_pay2 (F := Ideal) v0 v2 v9 v13 v17 v21 v25 (ix2 r k)
          * k0_pay2 (F := Ideal) v0 v2 v9 v13 v17 v21 v25 (ix2 r k) * v33 (ix2 k l) := by
  pointwise [k0_pay5, k0_pay3]

/-- The stored entry from the activated row, its mean and its mean of squares. -/
theorem out_apply (z mu s : FVec Ideal S20000x128 .f32) (r : Fin 20000) (l : Fin 128) :
    k0_pay1 (F := Ideal) z mu s (ix2 r l)
      = (z (ix2 r l) - mu (ix2 r l))
          * Ideal.rsqrt (s (ix2 r l) - mu (ix2 r l) * mu (ix2 r l) + Ideal.ofBits .f32 0x3727C5AC#32) := by
  pointwise [k0_pay1]

/-- The stored entry: the activated row `r`, normalised, at column `l`. -/
theorem block_apply (r : Fin 20000) (l : Fin 128) :
    k0_pay1 (F := Ideal) (k0_pay2 v0 v2 v9 v13 v17 v21 v25) (k0_pay4 v0 v2 v9 v13 v17 v21 v25 v33)
        (k0_pay5 v0 v2 v9 v13 v17 v21 v25 v33) (ix2 r l)
      = normed (act (fun k => v0 (ix2 r k)) (fun k => v2 (ix2 0 k)) (fun k n => v9 (ix2 k n)) (fun k n => v13 (ix2 k n))
          (fun n => v17 (ix2 0 n)) (fun n => v21 (ix2 0 n)) (fun n => v25 (ix2 0 n))) (fun k n => v33 (ix2 k n)) l := by
  rw [out_apply, mean_apply, square_apply]
  simp only [act_apply]
  rfl

end Cert.KernelBlock

end
-- ==== Proof.Scatter.lean ====
/- The three tables that the host part of the kernel builds by setting a box inside a constant array: where each
   entry of the box lands, and so what the table holds inside the box and outside it. -/
module

public import proofs.«01_k».proof.Proof.Gen.KernelIdeal
public import Idealize.ShloMosaic.Lib.Pointwise
public import Idealize.ShloMosaic.Lib.Routing.OpsPair
public import Idealize.ShloMosaic.Lib.Routing.OpsSet

@[expose] public section

set_option maxRecDepth 16384

namespace Cert.HostTables

open Cert.KernelIdeal Cert.KernelIdeal.Gen Idealize.ShloMosaic Idealize.ShloMosaic.Routing

/-- Two rank-two indices agree exactly when both coordinates do, the axes taken one by one. -/
theorem forall_axis2 {P : Fin 2 → Prop} : (∀ a, P a) ↔ P 0 ∧ P 1 :=
  ⟨fun h => ⟨h 0, h 1⟩, fun h a => match a with | ⟨0, _⟩ => h.1 | ⟨1, _⟩ => h.2⟩

/-- Where entry `(a, b)` of the 16 by 64 box lands: at the two start words plus `(a, b)`. -/
theorem lands_weights (idx : IVec S2 32) (a : Fin 16) (b : Fin 64) (r : Fin 17) (l : Fin 128) :
    scatter_S17x128_S2_S16x64_01_n_01_0.resultIdx? (ix2 a b) idx = some (ix2 r l)
      ↔ (idx (ix1 0)).toInt + (a.val : Int) = (r.val : Int) ∧ (idx (ix1 1)).toInt + (b.val : Int) = (l.val : Int) := by
  rw [resultIdx?_eq_some]
  refine forall_axis2.trans (and_congr ?_ ?_)
  · have h : scatter_S17x128_S2_S16x64_01_n_01_0.start (ix2 a b) idx 0 = (idx (ix1 0)).toInt := by
      unfold ScatterDims.start
      rw [dif_pos (by decide)]
      congr 2
      funext q; fin_cases q; rfl
    have h' : scatter_S17x128_S2_S16x64_01_n_01_0.window (ix2 a b) 0 = a.val := rfl
    rw [h, h']; rfl
  · have h : scatter_S17x128_S2_S16x64_01_n_01_0.start (ix2 a b) idx 1 = (idx (ix1 1)).toInt := by
      unfold ScatterDims.start
      rw [dif_pos (by decide)]
      congr 2
      funext q; fin_cases q; rfl
    have h' : scatter_S17x128_S2_S16x64_01_n_01_0.window (ix2 a b) 1 = b.val := rfl
    rw [h, h']; rfl

/-- Where entry `(a, b)` of the 3 by 64 box lands: at the two start words plus `(a, b)`. -/
theorem lands_steps (idx : IVec S2 32) (a : Fin 3) (b : Fin 64) (r : Fin 8) (l : Fin 128) :
    scatter_S8x128_S2_S3x64_01_n_01_0.resultIdx? (ix2 a b) idx = some (ix2 r l)
      ↔ (idx (ix1 0)).toInt + (a.val : Int) = (r.val : Int) ∧ (idx (ix1 1)).toInt + (b.val : Int) = (l.val : Int) := by
  rw [resultIdx?_eq_some]
  refine forall_axis2.trans (and_congr ?_ ?_)
  · have h : scatter_S8x128_S2_S3x64_01_n_01_0.start (ix2 a b) idx 0 = (idx (ix1 0)).toInt := by
      unfold ScatterDims.start
      rw [dif_pos (by decide)]
      congr 2
      funext q; fin_cases q; rfl
    have h' : scatter_S8x128_S2_S3x64_01_n_01_0.window (ix2 a b) 0 = a.val := rfl
    rw [h, h']; rfl
  · have h : scatter_S8x128_S2_S3x64_01_n_01_0.start (ix2 a b) idx 1 = (idx (ix1 1)).toInt := by
      unfold ScatterDims.start
      rw [dif_pos (by decide)]
      congr 2
      funext q; fin_cases q; rfl
    have h' : scatter_S8x128_S2_S3x64_01_n_01_0.window (ix2 a b) 1 = b.val := rfl
    rw [h, h']; rfl

/-- Where entry `a` of the three thresholds lands: at the start word plus `a`. -/
theorem lands_thresholds (idx : IVec S1 32) (a : Fin 3) (l : Fin 128) :
    scatter_S128_S1_S3_0_n_0_0.resultIdx? (ix1 a) idx = some (ix1 l) ↔ (idx (ix1 0)).toInt + (a.val : Int) = (l.val : Int) := by
  rw [resultIdx?_eq_some]
  have h : scatter_S128_S1_S3_0_n_0_0.start (ix1 a) idx 0 = (idx (ix1 0)).toInt := by
    unfold ScatterDims.start
    rw [dif_pos (by decide)]
    congr 2
    funext q; fin_cases q; rfl
  have h' : scatter_S128_S1_S3_0_n_0_0.window (ix1 a) 0 = a.val := rfl
  constructor
  · intro q
    have := q 0
    rw [h, h'] at this
    exact this
  · intro q e
    match e with
    | ⟨0, _⟩ => exact (congrArg₂ (fun x (y : Nat) => x + (y : Int)) h h').trans q

variable {α : Type}

/-- The weight table inside its box: row `k + 1`, column `64 + j` holds entry `(k, j)`. -/
theorem weights_hit (x : S17x128.Idx → α) (idx : IVec S2 32) (u : S16x64.Idx → α)
    (h0 : (idx (ix1 0)).toInt = 1) (h1 : (idx (ix1 1)).toInt = 64) (k : Fin 16) (j : Fin 64) (l : Fin 128) (hl : l.val = 64 + j.val) :
    Host.scatter scatter_S17x128_S2_S16x64_01_n_01_0 (fun _ b => b) x idx u (ix2 k.succ l) = u (ix2 k j) := by
  refine scatter_set_hit _ _ _ _ _ _ (fun q hq => ?_) (ix2 k j) ?_
  · idx_vars q
    rw [lands_weights, h0, h1, Fin.val_succ, hl] at hq
    congr 2 <;> apply Fin.ext <;> omega
  · rw [lands_weights, h0, h1, Fin.val_succ, hl]; omega

/-- The weight table outside its box: the first row and the first 64 columns hold what they held. -/
theorem weights_miss (x : S17x128.Idx → α) (idx : IVec S2 32) (u : S16x64.Idx → α)
    (h0 : (idx (ix1 0)).toInt = 1) (h1 : (idx (ix1 1)).toInt = 64) (r : Fin 17) (l : Fin 128) (h : r.val = 0 ∨ l.val < 64) :
    Host.scatter scatter_S17x128_S2_S16x64_01_n_01_0 (fun _ b => b) x idx u (ix2 r l) = x (ix2 r l) := by
  refine scatter_set_miss _ _ _ _ _ (fun q hq => ?_)
  idx_vars q
  rw [lands_weights, h0, h1] at hq
  omega

/-- The table of differences inside its box: row `k < 3`, column `j < 64` holds entry `(k, j)`. -/
theorem steps_hit (x : S8x128.Idx → α) (idx : IVec S2 32) (u : S3x64.Idx → α)
    (h0 : (idx (ix1 0)).toInt = 0) (h1 : (idx (ix1 1)).toInt = 0) (r : Fin 8) (k : Fin 3) (hk : r.val = k.val)
    (j : Fin 64) (l : Fin 128) (hl : l.val = j.val) :
    Host.scatter scatter_S8x128_S2_S3x64_01_n_01_0 (fun _ b => b) x idx u (ix2 r l) = u (ix2 k j) := by
  refine scatter_set_hit _ _ _ _ _ _ (fun q hq => ?_) (ix2 k j) ?_
  · idx_vars q
    rw [lands_steps, h0, h1, hk, hl] at hq
    congr 2 <;> apply Fin.ext <;> omega
  · rw [lands_steps, h0, h1, hk, hl]; omega

/-- The table of differences outside its box: rows from 3 on and columns from 64 on hold what they held. -/
theorem steps_miss (x : S8x128.Idx → α) (idx : IVec S2 32) (u : S3x64.Idx → α)
    (h0 : (idx (ix1 0)).toInt = 0) (h1 : (idx (ix1 1)).toInt = 0) (r : Fin 8) (l : Fin 128) (h : 3 ≤ r.val ∨ 64 ≤ l.val) :
    Host.scatter scatter_S8x128_S2_S3x64_01_n_01_0 (fun _ b => b) x idx u (ix2 r l) = x (ix2 r l) := by
  refine scatter_set_miss _ _ _ _ _ (fun q hq => ?_)
  idx_vars q
  rw [lands_steps, h0, h1] at hq
  omega

/-- The thresholds: place `k < 3` holds entry `k`. -/
theorem thresholds_hit (x : S128.Idx → α) (idx : IVec S1 32) (u : S3.Idx → α)
    (h0 : (idx (ix1 0)).toInt = 0) (k : Fin 3) (l : Fin 128) (hl : l.val = k.val) :
    Host.scatter scatter_S128_S1_S3_0_n_0_0 (fun _ b => b) x idx u (ix1 l) = u (ix1 k) := by
  refine scatter_set_hit _ _ _ _ _ _ (fun q hq => ?_) (ix1 k) ?_
  · idx_vars q
    rw [lands_thresholds, h0, hl] at hq
    congr 2; apply Fin.ext; omega
  · rw [lands_thresholds, h0, hl]; omega

end Cert.HostTables

end
-- ==== Proof.Tables.lean ====
/- What each table that the host part of the kernel builds holds, entry by entry, as a value of the arguments. -/
module

public import proofs.«01_k».proof.Proof.Gen.KernelIdeal.Frame
public import proofs.«01_k».proof.Proof.Scatter
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Tables

open Cert.KernelIdeal Cert.KernelIdeal.Gen Idealize.ShloMosaic Idealize.ShloMosaic.TcCoe

variable (m : (ℓ : Loc nD τ sig) → Buf (Elt Ideal) ℓ) (c : Dev nD)

/-- The embedding table as launched. -/
abbrev emb : S4x64.Idx → EReal := m ((c.tc : Thread nD τ).loc main_arg1)
/-- The weights as launched. -/
abbrev wts : S16x64.Idx → EReal := m ((c.tc : Thread nD τ).loc main_arg2)
/-- The bias as launched. -/
abbrev bias : S64.Idx → EReal := m ((c.tc : Thread nD τ).loc main_arg3)

/-- The weight table that the grid reads. -/
abbrev wTab : S17x128.Idx → EReal := V m c main_v4
/-- The bias row that the grid reads. -/
abbrev bTab : S1x128.Idx → EReal := V m c main_v8
/-- The row of thresholds that the grid reads. -/
abbrev thrTab : S1x128.Idx → EReal := V m c main_v31
/-- The table of differences of embedding rows that the grid reads. -/
abbrev difTab : S8x128.Idx → EReal := V m c main_v22
/-- The averaging table that the grid reads. -/
abbrev avgTab : S128x128.Idx → EReal := V m c main_v32
/-- The row of factors before the activation that the grid reads. -/
abbrev facTab : S1x128.Idx → EReal := V m c main_v33
/-- The row of factors inside the activation's `erf` that the grid reads. -/
abbrev innTab : S1x128.Idx → EReal := V m c main_v34

/-- The averaging table holds the one constant 1/128. -/
theorem avg (k l : Fin 128) : avgTab m c (ix2 k l) = Ideal.ofBits .f32 0x3C000000#32 := by
  unfold avgTab V
  after_reads_at

/-- The factors before the activation: one in the first half. -/
theorem factor_lo (l : Fin 128) (h : l.val < 64) : facTab m c (ix2 0 l) = 1 := by
  unfold facTab V
  after_reads_at
  rw [dif_pos h]
  after_reads_at

/-- The factors before the activation: a half in the second half. -/
theorem factor_hi (l : Fin 128) (h : ¬ l.val < 64) :
    facTab m c (ix2 0 l) = Ideal.ofBits .f32 0x3F000000#32 := by
  unfold facTab V
  after_reads_at
  rw [dif_neg h]
  after_reads_at
  pointwise [id_eq]

/-- The factors inside `erf`: zero in the first half. -/
theorem inner_lo (l : Fin 128) (h : l.val < 64) : innTab m c (ix2 0 l) = 0 := by
  unfold innTab V
  after_reads_at
  rw [dif_pos h]
  after_reads_at

/-- The factors inside `erf`: the printed 0.70710678 in the second half. -/
theorem inner_hi (l : Fin 128) (h : ¬ l.val < 64) :
    innTab m c (ix2 0 l) = Ideal.ofBits .f32 0x3F3504F3#32 := by
  unfold innTab V
  after_reads_at
  rw [dif_neg h]
  after_reads_at
  pointwise [id_eq]

/-- The bias row: the first row of the embedding table in the first half. -/
theorem bias_lo (l : Fin 128) (j : Fin 64) (h : l.val = j.val) :
    bTab m c (ix2 0 l) = emb m c (ix2 0 j) := by
  unfold bTab V
  after_reads_at
  rw [dif_pos (by omega)]
  after_reads_at
  exact congrArg (fun x => emb m c (ix2 0 x)) (Fin.ext h)

/-- The bias row: the bias in the second half. -/
theorem bias_hi (l : Fin 128) (j : Fin 64) (h : l.val = 64 + j.val) :
    bTab m c (ix2 0 l) = bias m c (ix1 j) := by
  unfold bTab V
  after_reads_at
  rw [dif_neg (by omega)]
  after_reads_at
  exact congrArg (fun x => bias m c (ix1 x)) (Fin.ext (by dsimp only; omega))

/-- The weight table: row `k + 1`, column `64 + j` holds the weight `(k, j)`. -/
theorem weights_hi (k : Fin 16) (l : Fin 128) (j : Fin 64) (h : l.val = 64 + j.val) :
    wTab m c (ix2 k.succ l) = wts m c (ix2 k j) := by
  unfold wTab V
  after_reads_simp
  refine HostTables.weights_hit _ _ _ ?_ ?_ k j l h
  · pointwise
    after_reads_at
    rfl
  · pointwise
    after_reads_at
    rfl

/-- The weight table is zero in its first row and in its first 64 columns. -/
theorem weights_zero (k : Fin 17) (l : Fin 128) (h : k.val = 0 ∨ l.val < 64) : wTab m c (ix2 k l) = 0 := by
  unfold wTab V
  after_reads_simp
  refine (HostTables.weights_miss _ _ _ ?_ ?_ k l h).trans ?_
  · pointwise
    after_reads_at
    rfl
  · pointwise
    after_reads_at
    rfl
  · pointwise

/-- The table of differences: row `k < 3`, column `j < 64` holds row `k + 1` less row `k` of the embedding table. -/
theorem diffs_in (r : Fin 8) (k : Fin 3) (hk : r.val = k.val) (l : Fin 128) (j : Fin 64) (h : l.val = j.val) :
    difTab m c (ix2 r l) = emb m c (ix2 k.succ j) - emb m c (ix2 k.castSucc j) := by
  unfold difTab V
  after_reads_simp
  refine (HostTables.steps_hit _ _ _ ?_ ?_ r k hk j l h).trans ?_
  · pointwise
    after_reads_at
    rfl
  · pointwise
    after_reads_at
    rfl
  · pointwise
    rw [show (⟨1 + k.val, by omega⟩ : Fin 4) = k.succ from Fin.ext (by dsimp only; rw [Fin.val_succ]; omega)]
    rfl

/-- The table of differences is zero in its rows from 3 on and in its columns from 64 on. -/
theorem diffs_zero (r : Fin 8) (l : Fin 128) (h : 3 ≤ r.val ∨ 64 ≤ l.val) : difTab m c (ix2 r l) = 0 := by
  unfold difTab V
  after_reads_simp
  refine (HostTables.steps_miss _ _ _ ?_ ?_ r l h).trans ?_
  · pointwise
    after_reads_at
    rfl
  · pointwise
    after_reads_at
    rfl
  · pointwise

/-- The first three thresholds are 1, 2 and 3. -/
theorem thresholds (l : Fin 128) (k : Fin 3) (h : l.val = k.val) :
    thrTab m c (ix2 0 l) = ((k.val + 1 : ℝ) : EReal) := by
  unfold thrTab V
  after_reads_at
  refine (HostTables.thresholds_hit _ _ _ ?_ k l h).trans ?_
  · pointwise
    rfl
  · pointwise
    have e : ∀ k : Fin 3, (BitVec.ofNat 32 k.val).toInt = (k.val : Int) := by decide
    show (1 : EReal) + (((BitVec.ofNat 32 k.val).toInt : ℝ) : EReal) = _
    rw [e k, add_comm, EReal.coe_add, EReal.coe_one, Int.cast_natCast]

end Cert.Tables

end
-- ==== Proof.KernelArray.lean ====
/- The result array of the kernel, entry by entry: the blocks tile it, and each block holds the normalised rows of its
   part of the input (`KernelBlock`), the tables read from the arrays the host part built. -/
module

public import proofs.«01_k».proof.Proof.Gen.KernelIdeal.Value
public import proofs.«01_k».proof.Proof.KernelBlock
public import proofs.«01_k».proof.Proof.Tables
public import Idealize.ShloMosaic.Lib.Pipeline.ValueKit

@[expose] public section

set_option maxRecDepth 16384

noncomputable section

namespace Cert.KernelArray

open Cert.KernelIdeal Cert.KernelIdeal.Gen Idealize.ShloMosaic Idealize.ShloMosaic.TcCoe Cert.RowForms Cert.Tables

variable (m : (ℓ : Loc nD τ sig) → Buf (Elt Ideal) ℓ) (c : Dev nD)

/-- The block of input rows that grid point `t` reads: rows `20000 t` on. -/
theorem rows_apply (t : Fin cfg0.N) (r : Fin 20000) (k : Fin 17) (i : Fin 800000) (hi : i.val = win0_8.index t 0 * 20000 + r.val) :
    (iblk m c 0 t : Vec Ideal S20000x17 .f32) (ix2 r k) = (m ((c.tc : Thread nD τ).loc main_arg0) : S800000x17.Idx → EReal) (ix2 i k) := by
  have e : ∀ t : Fin grid0.N, win0_0.index t = ![win0_8.index t 0, 0] := by decide +kernel
  blk_ext [iblk, V, e t]

/-- Every grid point reads the whole weight table. -/
theorem whole1 (t : Fin cfg0.N) : (iblk m c 1 t : Vec Ideal S17x128 .f32) = wTab m c := by
  have e : ∀ t : Fin grid0.N, win0_1.index t = ![0, 0] := by decide +kernel
  funext j
  blk_ext [iblk, e t]

/-- Every grid point reads the whole bias row. -/
theorem whole2 (t : Fin cfg0.N) : (iblk m c 2 t : Vec Ideal S1x128 .f32) = bTab m c := by
  have e : ∀ t : Fin grid0.N, win0_2.index t = ![0, 0] := by decide +kernel
  funext j
  blk_ext [iblk, e t]

/-- Every grid point reads the whole row of thresholds. -/
theorem whole3 (t : Fin cfg0.N) : (iblk m c 3 t : Vec Ideal S1x128 .f32) = thrTab m c := by
  have e : ∀ t : Fin grid0.N, win0_3.index t = ![0, 0] := by decide +kernel
  funext j
  blk_ext [iblk, e t]

/-- Every grid point reads the whole table of differences. -/
theorem whole4 (t : Fin cfg0.N) : (iblk m c 4 t : Vec Ideal S8x128 .f32) = difTab m c := by
  have e : ∀ t : Fin grid0.N, win0_4.index t = ![0, 0] := by decide +kernel
  funext j
  blk_ext [iblk, e t]

/-- Every grid point reads the whole averaging table. -/
theorem whole5 (t : Fin cfg0.N) : (iblk m c 5 t : Vec Ideal S128x128 .f32) = avgTab m c := by
  have e : ∀ t : Fin grid0.N, win0_5.index t = ![0, 0] := by decide +kernel
  funext j
  blk_ext [iblk, e t]

/-- Every grid point reads the whole row of factors before the activation. -/
theorem whole6 (t : Fin cfg0.N) : (iblk m c 6 t : Vec Ideal S1x128 .f32) = facTab m c := by
  have e : ∀ t : Fin grid0.N, win0_6.index t = ![0, 0] := by decide +kernel
  funext j
  blk_ext [iblk, e t]

/-- Every grid point reads the whole row of factors inside the activation's `erf`. -/
theorem whole7 (t : Fin cfg0.N) : (iblk m c 7 t : Vec Ideal S1x128 .f32) = innTab m c := by
  have e : ∀ t : Fin grid0.N, win0_7.index t = ![0, 0] := by decide +kernel
  funext j
  blk_ext [iblk, e t]

/-- The result array as one function of the arguments and the tables. -/
def result : S800000x128.Idx → EReal := fun j =>
  normed (act (fun k => (m ((c.tc : Thread nD τ).loc main_arg0) : S800000x17.Idx → EReal) (ix2 (j 0) k))
      (fun k => thrTab m c (ix2 0 k)) (fun k n => wTab m c (ix2 k n))
      (fun k n => difTab m c (ix2 k n)) (fun n => bTab m c (ix2 0 n))
      (fun n => facTab m c (ix2 0 n)) (fun n => innTab m c (ix2 0 n)))
    (fun k n => avgTab m c (ix2 k n)) (j 1)

/-- The array after the run is that function: its blocks cover it, and each holds what its grid point computed. -/
theorem arr_eq : (dats m 0 c).arrAt 8 cfg0.N = result m c := by
  refine (dats m 0 c).arrAt_eq_of_covers 8 _ (by decide +kernel) fun t hf y => ?_
  blk_simp
  rw [after0_8]
  frame_out
  have e : ∀ t : Fin grid0.N, win0_8.index t 1 = 0 := by decide +kernel
  change S20000x128.Idx at y
  obtain ⟨r, l, rfl⟩ : ∃ (r : Fin 20000) (l : Fin 128), y = ix2 r l := ⟨y 0, y 1, eq_ix2 y⟩
  rw [KernelBlock.block_apply]
  have h0 : ((((cfg0.win 8).blk t).view.emb (ix2 r l)) 0).val = win0_8.index t 0 * 20000 + r.val := by
    blk_simp
  have h1 : ((((cfg0.win 8).blk t).view.emb (ix2 r l)) 1) = l := by
    apply Fin.ext
    blk_simp
    rw [e t]; simp
  have hj : ((cfg0.win 8).blk t).view.emb (ix2 r l) = ix2 ((((cfg0.win 8).blk t).view.emb (ix2 r l)) 0) l :=
    (eq_ix2 _).trans (congrArg (ix2 _) h1)
  rw [hj]
  unfold result
  simp only [whole1, whole2, whole3, whole4, whole5, whole6, whole7, fun k => rows_apply m c t r k _ h0]
  rfl

end Cert.KernelArray

end
-- ==== Proof.RefForm.lean ====
/- The reference's result as a composition of named steps: the row number looked up, the looked-up rows, the linear
   layer, its activation, the two halves side by side, and the normalisation. -/
module

public import proofs.«01_k».proof.Proof.Gen.ReferenceIdeal.Run

@[expose] public section

set_option maxRecDepth 16384

noncomputable section

namespace Cert.RefForm

open Cert.ReferenceIdeal Cert.ReferenceIdeal.Gen Idealize.ShloMosaic Idealize.ShloMosaic.TcCoe

variable {F : FTy → Type} [FloatOps F]

/-- The edge types, the first column of the rows, as words. -/
def types (x : FVec F S800000x17 .f32) : IVec S800000 32 :=
  fptosi 32 (shapeCast S800000 (extractStridedSlice S800000x1 ![0, 0] x slices_S800000x17_S800000x1_0_0) shapeCasts_S800000x1_S800000)

/-- The row numbers looked up: an edge type, or four more than it where it is negative. -/
def words (t : IVec S800000 32) : IVec S800000x1 32 :=
  broadcastInDim S800000x1 ![0] bcast_S800000_S800000x1_0
    (select (cmpi .slt t (broadcastInDim S800000 ![] bcast_S_S800000 (constantI S_ 32 0#32)))
      (addi t (broadcastInDim S800000 ![] bcast_S_S800000 (constantI S_ 32 4#32))) t)

/-- Whether a row number is one of the table's. -/
def inTable (w : IVec S800000x1 32) : IVec S800000 1 :=
  Host.reduce IntOp.andi (andi (cmpi .sge w (broadcastInDim S800000x1 ![] bcast_S_S800000x1 (constantI S_ 32 0#32)))
    (cmpi .sle w (broadcastInDim S800000x1 ![0, 1] bcast_S1x1_S800000x1_0_1 (broadcastInDim S1x1 ![1] bcast_S1_S1x1_1 (constantI S1 32 3#32)))))
    (constantI S_ 1 1#1) reducesTo_S800000x1_S800000_d1 h_S_

/-- The embedding rows looked up, the not-a-number constant where the row number is not one of the table's. -/
def looked (e : FVec F S4x64 .f32) (w : IVec S800000x1 32) : FVec F S800000x64 .f32 :=
  select (broadcastInDim S800000x64 ![0] bcast_S800000_S800000x64_0 (inTable w))
    (Host.gather gather_S4x64_S800000x1_S800000x64_1_0_n_n_0_1_164 e w)
    (broadcastInDim S800000x64 ![] bcast_S_S800000x64 (constant S_ .f32 0x7FC00000#32))

/-- The linear layer on the other 16 columns. -/
def hidden (x : FVec F S800000x17 .f32) (w : FVec F S16x64 .f32) (b : FVec F S64 .f32) : FVec F S800000x64 .f32 :=
  addf (Host.dotGeneral dot_S800000x16_S16x64_S800000x64_1_0_0_1_n_n none
      (extractStridedSlice S800000x16 ![0, 1] x slices_S800000x17_S800000x16_0_1) w)
    (broadcastInDim S800000x64 ![0, 1] bcast_S1x64_S800000x64_0_1 (broadcastInDim S1x64 ![1] bcast_S64_S1x64_1 b))

/-- The activation `(h / 2) erfc (-h c)`. -/
def gelu (h : FVec F S800000x64 .f32) : FVec F S800000x64 .f32 :=
  mulf (mulf (broadcastInDim S800000x64 ![] bcast_S_S800000x64 (constant S_ .f32 0x3F000000#32)) h)
    (Host.erfc (mulf (Host.negf h) (broadcastInDim S800000x64 ![] bcast_S_S800000x64 (constant S_ .f32 0x3F3504F3#32))))

/-- The two halves of a row side by side. -/
def joined (a b : FVec F S800000x64 .f32) : FVec F S800000x128 .f32 :=
  concatenate S800000x128 1 [⟨S800000x64, a⟩, ⟨S800000x64, b⟩] concatenates_S800000x64_S800000x64_S800000x128_d1

/-- The mean of each row. -/
def mean (z : FVec F S800000x128 .f32) : FVec F S800000x1 .f32 :=
  Host.divf (broadcastInDim S800000x1 ![0] bcast_S800000_S800000x1_0
      (Host.reduceAdd z (constant S_ .f32 0x00000000#32) reducesTo_S800000x128_S800000_d1 h_S_))
    (broadcastInDim S800000x1 ![] bcast_S_S800000x1 (constant S_ .f32 0x43000000#32))

/-- Each row less its mean. -/
def centred (z : FVec F S800000x128 .f32) : FVec F S800000x128 .f32 :=
  subf z (broadcastInDim S800000x128 ![0, 1] bcast_S800000x1_S800000x128_0_1 (mean z))

/-- The number of columns, no degree of freedom taken off. -/
def count : FVec F S_ .f32 := subf (constant S_ .f32 0x43000000#32) (sitofp .f32 (constantI S_ 32 0#32))

/-- The variance of each row. -/
def variance (z : FVec F S800000x128 .f32) : FVec F S800000x1 .f32 :=
  select (broadcastInDim S800000x1 ![] bcast_S_S800000x1 (cmpf .ogt (count (F := F)) (constant S_ .f32 0x00000000#32)))
    (Host.divf (broadcastInDim S800000x1 ![0] bcast_S800000_S800000x1_0
        (Host.reduceAdd (mulf (centred z) (centred z)) (constant S_ .f32 0x00000000#32) reducesTo_S800000x128_S800000_d1 h_S_))
      (broadcastInDim S800000x1 ![] bcast_S_S800000x1 count))
    (broadcastInDim S800000x1 ![] bcast_S_S800000x1 (id (constant S_ .f32 0x7FC00000#32)))

/-- The normalised rows, scaled and shifted. -/
def normed (z : FVec F S800000x128 .f32) (g s : FVec F S128 .f32) : FVec F S800000x128 .f32 :=
  addf (mulf (Host.divf (centred z) (broadcastInDim S800000x128 ![0, 1] bcast_S800000x1_S800000x128_0_1
      (Host.sqrt (addf (variance z) (broadcastInDim S800000x1 ![] bcast_S_S800000x1 (constant S_ .f32 0x3727C5AC#32))))))
    (broadcastInDim S800000x128 ![0, 1] bcast_S1x128_S800000x128_0_1 (broadcastInDim S1x128 ![1] bcast_S128_S1x128_1 g)))
    (broadcastInDim S800000x128 ![0, 1] bcast_S1x128_S800000x128_0_1 (broadcastInDim S1x128 ![1] bcast_S128_S1x128_1 s))

/-- The reference's result is the composition of these steps on its six arguments. -/
theorem res_eq (m : (ℓ : Loc nD τ sig) → Buf (Elt F) ℓ) (c : Dev nD) :
    Value.res_main_v34 m c
      = normed (joined (looked (m ((c.tc : Thread nD τ).loc main_arg1)) (words (types (F := F) (m ((c.tc : Thread nD τ).loc main_arg0)))))
          (gelu (hidden (m ((c.tc : Thread nD τ).loc main_arg0)) (m ((c.tc : Thread nD τ).loc main_arg2)) (m ((c.tc : Thread nD τ).loc main_arg3)))))
          (m ((c.tc : Thread nD τ).loc main_arg4)) (m ((c.tc : Thread nD τ).loc main_arg5)) := by
  unfold Value.res_main_v34
  rfl

end Cert.RefForm

end
-- ==== Proof.Consts.lean ====
/- The float constants the two programs and the precondition spell, as the extended reals their patterns denote. -/
module

public import Idealize.ShloMosaic.PureOps.Ideal

@[expose] public section

noncomputable section

namespace Cert.Consts

open Idealize.ShloMosaic

/-- `128.0`, the number of columns. -/
theorem word_128 : Ideal.ofBits .f32 0x43000000#32 = ((128 : ℝ) : EReal) := by
  simp [Ideal.ofBits, Ideal.ieee, -EReal.coe_mul]; norm_num

/-- `1/128`, the entries of the kernel's averaging matrix. -/
theorem word_one_128th : Ideal.ofBits .f32 0x3C000000#32 = (((1 : ℝ) / 128 : ℝ) : EReal) := by
  simp [Ideal.ofBits, Ideal.ieee, -EReal.coe_mul]; norm_num

/-- `0.5`. -/
theorem word_half : Ideal.ofBits .f32 0x3F000000#32 = (((1 : ℝ) / 2 : ℝ) : EReal) := by
  simp [Ideal.ofBits, Ideal.ieee, -EReal.coe_mul]; norm_num

/-- `-1.0`. -/
theorem word_minus_one : Ideal.ofBits .f32 0xBF800000#32 = ((-1 : ℝ) : EReal) := by
  simp [Ideal.ofBits, Ideal.ieee, -EReal.coe_mul]; norm_num

/-- `1.0`. -/
theorem word_one : Ideal.ofBits .f32 0x3F800000#32 = 1 := by
  simp [Ideal.ofBits, Ideal.ieee, -EReal.coe_mul]; norm_num

/-- `4.0`. -/
theorem word_four : Ideal.ofBits .f32 0x40800000#32 = ((4 : ℝ) : EReal) := by
  simp [Ideal.ofBits, Ideal.ieee, -EReal.coe_mul]; norm_num

/-- `+∞`. -/
theorem word_top : Ideal.ofBits .f32 0x7F800000#32 = ⊤ := by
  simp [Ideal.ofBits, Ideal.ieee]

/-- The constant under the activation's error function, near the root of one half, is a real. -/
theorem word_root : ∃ y : ℝ, Ideal.ofBits .f32 0x3F3504F3#32 = (y : EReal) := by
  refine ⟨11863283 / 2 ^ 24, ?_⟩
  simp [Ideal.ofBits, Ideal.ieee, -EReal.coe_mul]; norm_num

/-- The small constant added to the variance is a positive real. -/
theorem word_eps : ∃ y : ℝ, 0 < y ∧ Ideal.ofBits .f32 0x3727C5AC#32 = (y : EReal) := by
  refine ⟨10995116 / 2 ^ 40, by norm_num, ?_⟩
  simp [Ideal.ofBits, Ideal.ieee, -EReal.coe_mul]; norm_num

end Cert.Consts

end
-- ==== Proof.RefRows.lean ====
/- The reference's steps read entry by entry over the extended reals. -/
module

public import proofs.«01_k».proof.Proof.RefForm
public import proofs.«01_k».proof.Proof.Consts
public import Idealize.ShloMosaic.Lib.Pointwise
public import Idealize.ShloMosaic.Lib.Routing.Ops

@[expose] public section

set_option maxRecDepth 16384

noncomputable section

namespace Cert.RefRows

open Cert.ReferenceIdeal Cert.ReferenceIdeal.Gen Idealize.ShloMosaic Cert.RefForm

/-- The word of row `r`: its edge type cut to an integer. -/
theorem types_apply (x : FVec Ideal S800000x17 .f32) (r : Fin 800000) :
    types (F := Ideal) x (ix1 r) = Ideal.fptosi 32 (x (ix2 r 0)) := by
  pointwise [types]
  rfl

/-- An edge type that is one of the table's row numbers is the row number looked up. -/
theorem words_apply (t : IVec S800000 32) (r : Fin 800000) (n : Fin 4) (h : t (ix1 r) = BitVec.ofNat 32 n.val) :
    words t (ix2 r 0) = BitVec.ofNat 32 n.val := by
  pointwise [words]
  rw [h]
  fin_cases n <;> rfl

/-- Such a row number is found to be one of the table's. -/
theorem inTable_apply (w : IVec S800000x1 32) (r : Fin 800000) (n : Fin 4) (h : w (ix2 r 0) = BitVec.ofNat 32 n.val) :
    inTable w (ix1 r) = 1#1 := by
  pointwise [inTable]
  have hs : (Finset.univ : Finset (Fin 1)) = {0} := rfl
  erw [hs, Finset.fold_singleton]
  rw [h]
  fin_cases n <;> rfl

/-- With row number `n`, row `r` of the looked-up rows is the table's row `n`. -/
theorem looked_apply (e : FVec Ideal S4x64 .f32) (w : IVec S800000x1 32) (r : Fin 800000) (n : Fin 4)
    (h : w (ix2 r 0) = BitVec.ofNat 32 n.val) (j : Fin 64) :
    looked (F := Ideal) e w (ix2 r j) = e (ix2 n j) := by
  pointwise [looked]
  rw [inTable_apply w r n h]
  exact Routing.gather_row (nb := 4) gather_S4x64_S800000x1_S800000x64_1_0_n_n_0_1_164 rfl rfl rfl rfl rfl e w r j n h (by norm_num)

/-- The activation of an entry. -/
theorem gelu_apply (h : FVec Ideal S800000x64 .f32) (r : Fin 800000) (j : Fin 64) :
    gelu (F := Ideal) h (ix2 r j) = Ideal.ofBits .f32 0x3F000000#32 * h (ix2 r j)
      * Ideal.erfc (-h (ix2 r j) * Ideal.ofBits .f32 0x3F3504F3#32) := by
  pointwise [gelu]

/-- An entry of the linear layer. -/
theorem hidden_apply (x : FVec Ideal S800000x17 .f32) (w : FVec Ideal S16x64 .f32) (b : FVec Ideal S64 .f32)
    (r : Fin 800000) (j : Fin 64) :
    RefForm.hidden (F := Ideal) x w b (ix2 r j) = (∑ k : Fin 16, x (ix2 r k.succ) * w (ix2 k j)) + b (ix1 j) := by
  pointwise [Cert.RefForm.hidden]
  refine congrArg (· + b (ix1 j)) (Finset.sum_congr rfl fun k _ => ?_)
  exact congrArg (fun n => x (ix2 r n) * w (ix2 k j)) (Fin.ext (Nat.add_comm 1 k.val))

/-- The first 64 columns of the joined rows are the first half's. -/
theorem joined_lo (a b : FVec Ideal S800000x64 .f32) (r : Fin 800000) (l : Fin 128) (j : Fin 64) (h : l.val = j.val) :
    joined (F := Ideal) a b (ix2 r l) = a (ix2 r j) := by
  pointwise [joined]
  have := j.isLt
  rw [dif_pos (by omega)]
  exact congrArg (fun n => a (ix2 r n)) (Fin.ext h)

/-- The last 64 columns of the joined rows are the second half's. -/
theorem joined_hi (a b : FVec Ideal S800000x64 .f32) (r : Fin 800000) (l : Fin 128) (j : Fin 64)
    (h : l.val = 64 + j.val) :
    joined (F := Ideal) a b (ix2 r l) = b (ix2 r j) := by
  pointwise [joined]
  rw [dif_neg (by omega)]
  exact congrArg (fun n => b (ix2 r n)) (Fin.ext (by dsimp only; omega))

/-- The mean of row `r`. -/
theorem mean_apply (z : FVec Ideal S800000x128 .f32) (r : Fin 800000) :
    mean (F := Ideal) z (ix2 r 0) = Ideal.div (∑ k : Fin 128, z (ix2 r k)) ((128 : ℝ) : EReal) := by
  pointwise [mean]
  rw [Consts.word_128]

/-- An entry less its row's mean. -/
theorem centred_apply (z : FVec Ideal S800000x128 .f32) (r : Fin 800000) (l : Fin 128) :
    centred (F := Ideal) z (ix2 r l) = z (ix2 r l) - mean (F := Ideal) z (ix2 r 0) := by
  pointwise [centred]

/-- The number of columns. -/
theorem count_apply : RefForm.count (F := Ideal) ix0 = ((128 : ℝ) : EReal) := by
  pointwise [Cert.RefForm.count]
  rw [Consts.word_128]
  show ((128 : ℝ) : EReal) - (((0#32 : BitVec 32).toInt : ℝ) : EReal) = _
  simp

/-- The variance of row `r`. -/
theorem variance_apply (z : FVec Ideal S800000x128 .f32) (r : Fin 800000) :
    variance (F := Ideal) z (ix2 r 0)
      = Ideal.div (∑ k : Fin 128, centred (F := Ideal) z (ix2 r k) * centred (F := Ideal) z (ix2 r k)) ((128 : ℝ) : EReal) := by
  pointwise [variance]
  rw [count_apply, if_pos (by norm_num)]

/-- The normalised entry. -/
theorem normed_apply (z : FVec Ideal S800000x128 .f32) (g s : FVec Ideal S128 .f32) (r : Fin 800000) (l : Fin 128) :
    RefForm.normed (F := Ideal) z g s (ix2 r l)
      = Ideal.div (centred (F := Ideal) z (ix2 r l))
          (Ideal.sqrt (variance (F := Ideal) z (ix2 r 0) + Ideal.ofBits .f32 0x3727C5AC#32)) * g (ix1 l) + s (ix1 l) := by
  pointwise [normed]

end Cert.RefRows

end
-- ==== Proof.RowMath.lean ====
/- The arithmetic of one row, over reals in the extended reals: what the kernel's steps add up to, and that its
   normalisation, by the mean of squares less the square of the mean, is the normalisation by the mean squared deviation. -/
module

public import proofs.«01_k».proof.Proof.RowForms
public import proofs.«01_k».proof.Proof.Consts
public import Idealize.ShloMosaic.PureOps.Ideal.Laws

@[expose] public section

noncomputable section

namespace Cert.RowMath

open Idealize.ShloMosaic Cert.RowForms

/-- A sum of reals in the extended reals is the real sum. -/
theorem sum_real {n : ℕ} (f : Fin n → ℝ) : ∑ k, (f k : EReal) = ((∑ k, f k : ℝ) : EReal) :=
  (map_sum (⟨⟨Real.toEReal, rfl⟩, EReal.coe_add⟩ : ℝ →+ EReal) f Finset.univ).symm

/-- A step at reals is one or zero. -/
theorem step_real (a t : ℝ) : step a t = ((if a ≤ t then 1 else 0 : ℝ) : EReal) := by
  show (((BitVec.setWidth 32 (BitVec.ofBool (decide ((a : EReal) ≤ t)))).toInt : ℝ) : EReal) = _
  by_cases h : a ≤ t
  · have h' : (a : EReal) ≤ t := by exact_mod_cast h
    simp [h, h']
  · have h' : ¬ (a : EReal) ≤ t := by exact_mod_cast h
    simp [h, h']

/-- The row number `n` of an edge type `t` between -1 and 4: it is the word the type is cut to, and the number of
    thresholds 1, 2, 3 that the type has reached. -/
theorem type_row (t : ℝ) (h0 : -1 < t) (h4 : t < 4) :
    ∃ n : Fin 4, Ideal.fptosi 32 (t : EReal) = BitVec.ofNat 32 n.val
      ∧ ∀ k : Fin 3, ((k.val + 1 : ℝ) ≤ t ↔ k.val < n.val) := by
  have key : ∀ z : ℤ, (if 0 ≤ t then ⌊t⌋ else ⌈t⌉) = z → 0 ≤ z → z < 4 → Ideal.fptosi 32 (t : EReal) = BitVec.ofInt 32 z := by
    intro z hz h1 h2
    rw [Ideal.fptosi, Ideal.toIntClamped_coe, hz, min_eq_right (by norm_num; omega), max_eq_right (by norm_num; omega)]
  rcases lt_or_ge t 1 with h1 | h1
  · refine ⟨0, key 0 ?_ le_rfl (by norm_num), fun k => ?_⟩
    · split
      · rename_i h; exact Int.floor_eq_iff.mpr ⟨by simpa using h, by simpa using h1⟩
      · rename_i h; exact Int.ceil_eq_iff.mpr ⟨by simpa using h0, by simpa using (not_le.mp h).le⟩
    · have : (0 : ℝ) ≤ k.val := Nat.cast_nonneg _
      constructor
      · intro; linarith
      · intro h; exact absurd h (Nat.not_lt_zero _)
  have hp : 0 ≤ t := by linarith
  rcases lt_or_ge t 2 with h2 | h2
  · refine ⟨1, key 1 ?_ (by norm_num) (by norm_num), fun k => ?_⟩
    · rw [if_pos hp]; exact Int.floor_eq_iff.mpr ⟨by simpa using h1, by norm_num; linarith⟩
    · fin_cases k <;> norm_num <;> linarith
  rcases lt_or_ge t 3 with h3 | h3
  · refine ⟨2, key 2 ?_ (by norm_num) (by norm_num), fun k => ?_⟩
    · rw [if_pos hp]; exact Int.floor_eq_iff.mpr ⟨by simpa using h2, by norm_num; linarith⟩
    · fin_cases k <;> norm_num <;> linarith
  · refine ⟨3, key 3 ?_ (by norm_num) (by norm_num), fun k => ?_⟩
    · rw [if_pos hp]; exact Int.floor_eq_iff.mpr ⟨by simpa using h3, by norm_num; linarith⟩
    · fin_cases k <;> norm_num <;> linarith

/-- In a column of the embedding half the sum before the activation is the embedding entry of the row number: the first
    entry and the differences up to it. -/
theorem pre_embedding (x : Fin 17 → EReal) (thr : Fin 128 → EReal) (w : Fin 17 → Fin 128 → EReal)
    (d : Fin 8 → Fin 128 → EReal) (b : Fin 128 → EReal) (l : Fin 128) (e : Fin 4 → ℝ) (t : ℝ) (n : Fin 4)
    (hx : x 0 = t) (hn : ∀ k : Fin 3, ((k.val + 1 : ℝ) ≤ t ↔ k.val < n.val)) (hw : ∀ k, w k l = 0)
    (ht : ∀ (i : Fin 128) (k : Fin 3), i.val = k.val → thr i = ((k.val + 1 : ℝ) : EReal))
    (hd : ∀ (i : Fin 8) (k : Fin 3), i.val = k.val → d i l = (e k.succ : EReal) - e k.castSucc)
    (hz : ∀ i : Fin 8, 3 ≤ i.val → d i l = 0) (hb : b l = e 0) : pre x thr w d b l = e n := by
  have hterm : ∀ (i : Fin 8) (k : Fin 3), i.val = k.val → step (thr ⟨i.val, by omega⟩) (x 0) * d i l
      = (((if k.val < n.val then 1 else 0) * (e k.succ - e k.castSucc) : ℝ) : EReal) := by
    intro i k h
    rw [ht _ k h, hx, step_real, hd i k h, EReal.coe_mul, EReal.coe_sub]
    simp only [hn k]
  have hzero : ∀ i : Fin 8, 3 ≤ i.val → step (thr ⟨i.val, by omega⟩) (x 0) * d i l = 0 := by
    intro i h
    rw [hz i h, mul_zero]
  unfold pre
  rw [Finset.sum_eq_zero fun k _ => by rw [hw k, mul_zero], zero_add, hb, Fin.sum_univ_eight,
    hterm 0 0 rfl, hterm 1 1 rfl, hterm 2 2 rfl, hzero 3 (by decide), hzero 4 (by decide), hzero 5 (by decide),
    hzero 6 (by decide), hzero 7 (by decide)]
  simp only [add_zero, ← EReal.coe_add]
  refine congrArg Real.toEReal ?_
  fin_cases n <;> simp [Fin.succ, Fin.castSucc] <;> ring

/-- In a column of the other half the sum before the activation is the linear layer's. -/
theorem pre_linear (x : Fin 17 → EReal) (thr : Fin 128 → EReal) (w : Fin 17 → Fin 128 → EReal)
    (d : Fin 8 → Fin 128 → EReal) (b : Fin 128 → EReal) (l : Fin 128) (hw : w 0 l = 0) (hd : ∀ i, d i l = 0) :
    pre x thr w d b l = (∑ k : Fin 16, x k.succ * w k.succ l) + b l := by
  unfold pre
  rw [Fin.sum_univ_succ, hw, mul_zero, zero_add, Finset.sum_eq_zero (s := (Finset.univ : Finset (Fin 8)))
    fun k _ => by rw [hd k, mul_zero], add_zero]

/-- With the factors one and zero the activation does nothing. -/
theorem act_embedding (z : EReal) : z * 1 * (1 + Ideal.erf (z * 0)) = z := by
  rw [mul_zero, mul_one, ← EReal.coe_zero, Ideal.erf_coe, intervalIntegral.integral_same, mul_zero, EReal.coe_zero,
    add_zero, mul_one]

/-- The activation by the error function is the one by its complement. -/
theorem act_linear (z q c : EReal) : z * q * (1 + Ideal.erf (z * c)) = q * z * Ideal.erfc (-z * c) := by
  rw [EReal.neg_mul, Ideal.erfc_neg, mul_comm z q]

/-- The activation of a real is a real. -/
theorem act_finite (z q c : ℝ) : ∃ y : ℝ, (q : EReal) * z * Ideal.erfc (-(z : EReal) * c) = y := by
  rw [← EReal.coe_neg, ← EReal.coe_mul, ← EReal.coe_mul, Ideal.erfc, Ideal.erf_coe, ← EReal.coe_one, ← EReal.coe_sub,
    ← EReal.coe_mul]
  exact ⟨_, rfl⟩

/-- The mean of squares less the square of the mean is the mean squared deviation. -/
theorem variance_real (v : Fin 128 → ℝ) :
    (∑ k, v k * v k * (1 / 128)) - (∑ k, v k * (1 / 128)) * (∑ k, v k * (1 / 128))
      = (∑ k, (v k - (∑ i, v i) * (1 / 128)) * (v k - (∑ i, v i) * (1 / 128))) * (1 / 128) := by
  rw [← Finset.sum_mul, ← Finset.sum_mul]
  generalize hs : ∑ i, v i = s
  have h : ∀ k, (v k - s * (1 / 128)) * (v k - s * (1 / 128))
      = v k * v k - v k * (2 * (s * (1 / 128))) + s * (1 / 128) * (s * (1 / 128)) := fun k => by ring
  simp only [h]
  rw [Finset.sum_add_distrib, Finset.sum_sub_distrib, ← Finset.sum_mul, hs, Finset.sum_const, Finset.card_univ,
    Fintype.card_fin, nsmul_eq_mul]
  push_cast
  ring

/-- The kernel's normalisation of a row of reals is the reference's, with scale one and shift zero. -/
theorem normed_eq (v : Fin 128 → ℝ) (a : Fin 128 → Fin 128 → EReal)
    (ha : ∀ k l, a k l = ((1 / 128 : ℝ) : EReal)) (M : EReal)
    (hM : M = Ideal.div (∑ k, (v k : EReal)) ((128 : ℝ) : EReal)) (l : Fin 128) :
    normed (fun k => (v k : EReal)) a l
      = Ideal.div ((v l : EReal) - M) (Ideal.sqrt (Ideal.div (∑ k, ((v k : EReal) - M) * ((v k : EReal) - M))
          ((128 : ℝ) : EReal) + Ideal.ofBits .f32 0x3727C5AC#32)) * 1 + 0 := by
  obtain ⟨y, hy, hw⟩ := Consts.word_eps
  have h128 : (128 : ℝ) ≠ 0 := by norm_num
  rw [sum_real, Ideal.div_coe h128, ← EReal.coe_mul] at hM
  unfold normed
  simp only [ha, hw, hM, Ideal.div_coe h128, ← EReal.coe_mul, ← EReal.coe_sub, sum_real, ← EReal.coe_add, mul_one, add_zero]
  rw [variance_real]
  have hnn : 0 ≤ (∑ k, (v k - (∑ i, v i) * (1 / 128)) * (v k - (∑ i, v i) * (1 / 128))) * (1 / 128) :=
    mul_nonneg (Finset.sum_nonneg fun k _ => mul_self_nonneg _) (by norm_num)
  generalize (∑ k, (v k - (∑ i, v i) * (1 / 128)) * (v k - (∑ i, v i) * (1 / 128))) * (1 / 128) = q at hnn ⊢
  have hp : 0 < q + y := by linarith
  have hs : Real.sqrt (q + y) ≠ 0 := (Real.sqrt_pos.mpr hp).ne'
  rw [Ideal.rsqrt_coe, if_neg hp.le.not_gt, if_neg hp.ne', Ideal.sqrt_coe, if_neg hp.le.not_gt, Ideal.div_coe hs,
    ← EReal.coe_mul, ← EReal.coe_mul, one_div (Real.sqrt _), Finset.sum_mul]

end Cert.RowMath

end
-- ==== Proof.PreFacts.lean ====
/- The side conditions the precondition's printed form states (`Cert.Pre_inputs_ok.Facts`), each decided. -/
module

public import proofs.«01_k».proof.Pre_inputs_ok
public import Idealize.ShloMosaic.Lib.Decide

@[expose] public section

namespace Cert.InputFacts

open Cert.Pre_inputs_ok Idealize.ShloMosaic

/-- The shapes of the precondition's slice, reshape and broadcasts fit. -/
instance facts : Cert.Pre_inputs_ok.Facts where
  slices_S800000x17_S800000x1_0_0 := by decide
  shapeCasts_S800000x1_S800000 := by decide
  bcast_S_S800000x17 := by decide
  bcast_S_S800000 := by decide
  bcast_S_S4x64 := by decide
  bcast_S_S16x64 := by decide
  bcast_S_S64 := by decide
  bcast_S_S128 := by decide

end Cert.InputFacts

end
-- ==== Proof.Inputs.lean ====
/- What the precondition says of the six arguments, entry by entry. -/
module

public import proofs.«01_k».proof.Proof.PreFacts
public import proofs.«01_k».proof.Proof.Consts
public import Idealize.ShloMosaic.Lib.Pointwise

@[expose] public section

set_option maxRecDepth 16384

noncomputable section

namespace Cert.Inputs

open Cert.Pre_inputs_ok Idealize.ShloMosaic

/-- An extended real whose absolute value is below the top is a real. -/
theorem real_of_abs {a : EReal} (h : max a (-a) < ⊤) : ∃ y : ℝ, a = y := by
  induction a with
  | bot => simp at h
  | top => simp at h
  | coe y => exact ⟨y, rfl⟩

/-- A comparison whose bit is one holds. -/
theorem bit {p : Prop} [Decidable p] (h : BitVec.ofBool (decide p) = 1#1) : p := by
  by_contra hp
  simp [hp] at h

/-- Where two comparison bits have a conjunction of one, both comparisons hold. -/
theorem bits {p q : Prop} [Decidable p] [Decidable q]
    (h : IntOp.andi (BitVec.ofBool (decide p)) (BitVec.ofBool (decide q)) = 1#1) : p ∧ q := by
  by_cases hp : p <;> by_cases hq : q <;> simp [hp, hq, IntOp.andi] at h ⊢

/-- Where the bit of `|a| < ∞` is one, `a` is a real. -/
theorem real_of_bit {a : EReal}
    (h : BitVec.ofBool (decide (FloatOps.absf (F := Ideal) (φ := .f32) a < Ideal.ofBits .f32 0x7F800000#32)) = 1#1) :
    ∃ y : ℝ, a = y := by
  have h' := bit h
  rw [Consts.word_top] at h'
  exact real_of_abs h'

variable (x : S800000x17.Idx → EReal) (e : S4x64.Idx → EReal) (w : S16x64.Idx → EReal) (b : S64.Idx → EReal)
  (g s : S128.Idx → EReal)

/-- The rows are reals. -/
theorem rows (h : (fn (F := Ideal) x e w b g s).1 = fun _ => 1#1) (r : Fin 800000) (k : Fin 17) :
    ∃ y : ℝ, x (ix2 r k) = y := by
  refine real_of_bit (Eq.trans (Eq.symm ?_) (congrFun h (ix2 r k)))
  pointwise [Cert.Pre_inputs_ok.fn, Cert.Pre_inputs_ok.fn_part1]

/-- The edge types are between -1 and 4. -/
theorem range (h : (fn (F := Ideal) x e w b g s).2.1 = fun _ => 1#1) (r : Fin 800000) :
    ((-1 : ℝ) : EReal) < x (ix2 r 0) ∧ x (ix2 r 0) < ((4 : ℝ) : EReal) := by
  rw [← Consts.word_minus_one, ← Consts.word_four]
  refine bits (Eq.trans (Eq.symm ?_) (congrFun h (ix1 r)))
  pointwise [Cert.Pre_inputs_ok.fn, Cert.Pre_inputs_ok.fn_part1]

/-- The embedding table is of reals. -/
theorem table (h : (fn (F := Ideal) x e w b g s).2.2.1 = fun _ => 1#1) (n : Fin 4) (j : Fin 64) :
    ∃ y : ℝ, e (ix2 n j) = y := by
  refine real_of_bit (Eq.trans (Eq.symm ?_) (congrFun h (ix2 n j)))
  pointwise [Cert.Pre_inputs_ok.fn, Cert.Pre_inputs_ok.fn_part1]

/-- The weights are reals. -/
theorem weights (h : (fn (F := Ideal) x e w b g s).2.2.2.1 = fun _ => 1#1) (k : Fin 16) (j : Fin 64) :
    ∃ y : ℝ, w (ix2 k j) = y := by
  refine real_of_bit (Eq.trans (Eq.symm ?_) (congrFun h (ix2 k j)))
  pointwise [Cert.Pre_inputs_ok.fn, Cert.Pre_inputs_ok.fn_part1]

/-- The bias is of reals. -/
theorem offsets (h : (fn (F := Ideal) x e w b g s).2.2.2.2.1 = fun _ => 1#1) (j : Fin 64) :
    ∃ y : ℝ, b (ix1 j) = y := by
  refine real_of_bit (Eq.trans (Eq.symm ?_) (congrFun h (ix1 j)))
  pointwise [Cert.Pre_inputs_ok.fn, Cert.Pre_inputs_ok.fn_part1]

/-- The scale is one. -/
theorem scale (h : (fn (F := Ideal) x e w b g s).2.2.2.2.2.1 = fun _ => 1#1) (l : Fin 128) : g (ix1 l) = 1 := by
  rw [← Consts.word_one]
  refine bit (Eq.trans (Eq.symm ?_) (congrFun h (ix1 l)))
  pointwise [Cert.Pre_inputs_ok.fn, Cert.Pre_inputs_ok.fn_part1]

/-- The shift is zero. -/
theorem shift (h : (fn (F := Ideal) x e w b g s).2.2.2.2.2.2 = fun _ => 1#1) (l : Fin 128) : s (ix1 l) = 0 := by
  refine bit (Eq.trans (Eq.symm ?_) (congrFun h (ix1 l)))
  pointwise [Cert.Pre_inputs_ok.fn, Cert.Pre_inputs_ok.fn_part1]

end Cert.Inputs

end
-- ==== Proof.Equation.lean ====
/- The equation: on inputs as the precondition has them, the array the kernel writes is the reference's result. -/
module

public import proofs.«01_k».proof.Proof.KernelArray
public import proofs.«01_k».proof.Proof.Tables
public import proofs.«01_k».proof.Proof.RefRows
public import proofs.«01_k».proof.Proof.RowMath
public import proofs.«01_k».proof.Proof.Inputs

@[expose] public section

set_option maxRecDepth 16384

noncomputable section

namespace Cert.Equation

open Cert.KernelIdeal Cert.KernelIdeal.Gen Idealize.ShloMosaic Idealize.ShloMosaic.TcCoe Cert.Tables Cert.KernelArray

variable (m : (ℓ : Loc nD τ sig) → Buf (Elt Ideal) ℓ) (c : Dev nD)

/-- The rows as launched. -/
abbrev rows : S800000x17.Idx → EReal := m ((c.tc : Thread nD τ).loc main_arg0)
/-- The scale as launched. -/
abbrev scale : S128.Idx → EReal := m ((c.tc : Thread nD τ).loc main_arg4)
/-- The shift as launched. -/
abbrev shift : S128.Idx → EReal := m ((c.tc : Thread nD τ).loc main_arg5)

/-- A row before the activation, as the kernel computes it from its tables. -/
abbrev before (r : Fin 800000) (l : Fin 128) : EReal :=
  RowForms.pre (fun k => rows m c (ix2 r k)) (fun k => thrTab m c (ix2 0 k)) (fun k n => wTab m c (ix2 k n))
    (fun k n => difTab m c (ix2 k n)) (fun n => bTab m c (ix2 0 n)) l

/-- A row after the activation, as the kernel computes it from its tables. -/
abbrev feat (r : Fin 800000) (l : Fin 128) : EReal :=
  RowForms.act (fun k => rows m c (ix2 r k)) (fun k => thrTab m c (ix2 0 k)) (fun k n => wTab m c (ix2 k n))
    (fun k n => difTab m c (ix2 k n)) (fun n => bTab m c (ix2 0 n)) (fun n => facTab m c (ix2 0 n))
    (fun n => innTab m c (ix2 0 n)) l

/-- The reference's joined rows, from the kernel's arguments. -/
abbrev joined : S800000x128.Idx → EReal :=
  RefForm.joined (F := Ideal) (RefForm.looked (F := Ideal) (emb m c) (RefForm.words (RefForm.types (F := Ideal) (rows m c))))
    (RefForm.gelu (F := Ideal) (RefForm.hidden (F := Ideal) (rows m c) (wts m c) (bias m c)))

/-- Before the normalisation the kernel's row is the reference's, and it is a row of reals. -/
theorem feat_eq (hx : ∀ r k, ∃ y : ℝ, rows m c (ix2 r k) = y)
    (hr : ∀ r, ((-1 : ℝ) : EReal) < rows m c (ix2 r 0) ∧ rows m c (ix2 r 0) < ((4 : ℝ) : EReal))
    (he : ∀ n j, ∃ y : ℝ, emb m c (ix2 n j) = y) (hw : ∀ k j, ∃ y : ℝ, wts m c (ix2 k j) = y)
    (hb : ∀ j, ∃ y : ℝ, bias m c (ix1 j) = y) (r : Fin 800000) (l : Fin 128) :
    feat m c r l = joined m c (ix2 r l) ∧ ∃ y : ℝ, feat m c r l = y := by
  rcases lt_or_ge l.val 64 with hl | hl
  · obtain ⟨t, ht⟩ := hx r 0
    have hrt := hr r
    rw [ht] at hrt
    obtain ⟨n, hword, hn⟩ := RowMath.type_row t (by exact_mod_cast hrt.1) (by exact_mod_cast hrt.2)
    have hj : l.val = (⟨l.val, hl⟩ : Fin 64).val := rfl
    generalize (⟨l.val, hl⟩ : Fin 64) = j at hj
    choose E hE using fun k => he k j
    have hpre : feat m c r l = emb m c (ix2 n j) := by
      show RowForms.pre _ _ _ _ _ l * facTab m c (ix2 0 l)
        * (1 + Ideal.erf (RowForms.pre _ _ _ _ _ l * innTab m c (ix2 0 l))) = _
      rw [factor_lo m c l hl, inner_lo m c l hl, RowMath.act_embedding, hE n]
      refine RowMath.pre_embedding _ _ _ _ _ l E t n ht hn (fun k => weights_zero m c k l (Or.inr hl))
        (fun i k h => thresholds m c i k h) (fun i k h => ?_) (fun i h => diffs_zero m c i l (Or.inl h)) ?_
      · rw [← hE, ← hE]; exact diffs_in m c i k h l j hj
      · rw [← hE]; exact bias_lo m c l j hj
    refine ⟨hpre.trans ?_, E n, hpre.trans (hE n)⟩
    refine Eq.trans ?_ (RefRows.joined_lo _ _ r l j hj).symm
    refine (RefRows.looked_apply _ _ r n (RefRows.words_apply _ r n ?_) j).symm
    rw [RefRows.types_apply, ht, hword]
  · have hl' : ¬ l.val < 64 := by omega
    have hj : l.val = 64 + (⟨l.val - 64, by omega⟩ : Fin 64).val := by dsimp only; omega
    generalize (⟨l.val - 64, by omega⟩ : Fin 64) = j at hj
    choose X hX using fun k : Fin 16 => hx r k.succ
    choose W hW using fun k => hw k j
    obtain ⟨B, hB⟩ := hb j
    obtain ⟨y, hy⟩ := Consts.word_root
    have hlin : before m c r l = RefForm.hidden (F := Ideal) (rows m c) (wts m c) (bias m c) (ix2 r j) := by
      have h0 : (fun k n => wTab m c (ix2 k n) : Fin 17 → Fin 128 → EReal) 0 l = 0 := weights_zero m c 0 l (Or.inl rfl)
      have hd : ∀ i, (fun k n => difTab m c (ix2 k n) : Fin 8 → Fin 128 → EReal) i l = 0 :=
        fun i => diffs_zero m c i l (Or.inr hl)
      have h := RowMath.pre_linear (fun k => rows m c (ix2 r k)) (fun k => thrTab m c (ix2 0 k))
        (fun k n => wTab m c (ix2 k n)) (fun k n => difTab m c (ix2 k n)) (fun n => bTab m c (ix2 0 n)) l h0 hd
      refine h.trans ?_
      rw [RefRows.hidden_apply, bias_hi m c l j hj]
      refine congrArg (· + bias m c (ix1 j)) (Finset.sum_congr rfl fun k _ => ?_)
      exact congrArg (rows m c (ix2 r k.succ) * ·) (weights_hi m c k l j hj)
    have hpre : feat m c r l = Ideal.ofBits .f32 0x3F000000#32 * before m c r l
        * Ideal.erfc (-before m c r l * Ideal.ofBits .f32 0x3F3504F3#32) := by
      show before m c r l * facTab m c (ix2 0 l) * (1 + Ideal.erf (before m c r l * innTab m c (ix2 0 l))) = _
      rw [factor_hi m c l hl', inner_hi m c l hl', RowMath.act_linear]
    rw [hlin] at hpre
    refine ⟨hpre.trans ?_, ?_⟩
    · exact ((RefRows.joined_hi _ _ r l j hj).trans (RefRows.gelu_apply _ r j)).symm
    · rw [hpre, RefRows.hidden_apply, hy, Consts.word_half, hB]
      simp only [hX, hW, ← EReal.coe_mul, RowMath.sum_real, ← EReal.coe_add]
      rw [EReal.coe_mul]
      exact RowMath.act_finite _ _ _

/-- An entry of the reference's result is the kernel's normalised row at that column. -/
theorem entry_eq (hx : ∀ r k, ∃ y : ℝ, rows m c (ix2 r k) = y)
    (hr : ∀ r, ((-1 : ℝ) : EReal) < rows m c (ix2 r 0) ∧ rows m c (ix2 r 0) < ((4 : ℝ) : EReal))
    (he : ∀ n j, ∃ y : ℝ, emb m c (ix2 n j) = y) (hw : ∀ k j, ∃ y : ℝ, wts m c (ix2 k j) = y)
    (hb : ∀ j, ∃ y : ℝ, bias m c (ix1 j) = y) (hg : ∀ l, scale m c (ix1 l) = 1) (hs : ∀ l, shift m c (ix1 l) = 0)
    (r : Fin 800000) (l : Fin 128) :
    RefForm.normed (F := Ideal) (joined m c) (scale m c) (shift m c) (ix2 r l)
      = RowForms.normed (feat m c r) (fun k n => avgTab m c (ix2 k n)) l := by
  have hf := feat_eq m c hx hr he hw hb r
  choose v hv using fun k => (hf k).2
  have hz : ∀ k, joined m c (ix2 r k) = v k := fun k => (hf k).1.symm.trans (hv k)
  rw [show feat m c r = fun k => (v k : EReal) from funext hv]
  rw [RowMath.normed_eq v _ (fun k n => (avg m c k n).trans Consts.word_one_128th) _ rfl l]
  refine (RefRows.normed_apply _ _ _ r l).trans ?_
  rw [RefRows.variance_apply, hg, hs]
  simp only [RefRows.centred_apply, RefRows.mean_apply, hz]

/-- The array the kernel writes is the reference's result on the same arguments. -/
theorem result_eq (hx : ∀ r k, ∃ y : ℝ, rows m c (ix2 r k) = y)
    (hr : ∀ r, ((-1 : ℝ) : EReal) < rows m c (ix2 r 0) ∧ rows m c (ix2 r 0) < ((4 : ℝ) : EReal))
    (he : ∀ n j, ∃ y : ℝ, emb m c (ix2 n j) = y) (hw : ∀ k j, ∃ y : ℝ, wts m c (ix2 k j) = y)
    (hb : ∀ j, ∃ y : ℝ, bias m c (ix1 j) = y) (hg : ∀ l, scale m c (ix1 l) = 1) (hs : ∀ l, shift m c (ix1 l) = 0) :
    RefForm.normed (F := Ideal) (joined m c) (scale m c) (shift m c) = result m c := by
  funext i
  exact (congrArg _ (eq_ix2 i)).trans (entry_eq m c hx hr he hw hb hg hs (i 0) (i 1))

end Cert.Equation

end
-- ==== Proof.Claims.lean ====
/- The claims: the kernel and the reference run, and on inputs as the precondition has them their results are equal. -/
module

public import proofs.«01_k».proof.Defs
public import proofs.«01_k».proof.Proof.Equation
public import proofs.«01_k».proof.Proof.Gen.Kernel.Frame
public import proofs.«01_k».proof.Proof.Gen.KernelIdeal.Value
public import Idealize.ShloMosaic.Lib.Quiescent

@[expose] public section

set_option maxRecDepth 16384

noncomputable section

namespace Cert.Claims

open Idealize.ShloMosaic Idealize.ShloMosaic.TcCoe Idealize.SL.Sem

/-- The kernel runs and ends at rest with its arguments unchanged, over floats as bit patterns. -/
theorem frame_kernel : Cert.quiescent_Kernel := fun m ρ _ => Cert.Kernel.Gen.frame m ρ

/-- The same of the kernel over the extended reals. -/
theorem frame_ideal : Cert.quiescent_KernelIdeal := fun m ρ _ => Cert.KernelIdeal.Gen.frame m ρ

/-- The same under the precondition. -/
theorem frame_ideal_pre : Cert.quiescent_KernelIdeal_pre_inputs_ok := fun m ρ _ => Cert.KernelIdeal.Gen.frame m ρ

/-- The reference runs and ends at rest with its arguments unchanged. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the precondition. -/
theorem frame_reference_pre : Cert.quiescent_ReferenceIdeal_pre_inputs_ok := fun m ρ _ => frame_reference m ρ trivial

/-- On inputs as the precondition has them the kernel's result is the reference's. -/
theorem equal : Cert.algebraic_KernelIdeal_ReferenceIdeal_pre_inputs_ok := by
  intro m ρ m' ρ' hpre hagree
  refine ⟨fun c => Cert.KernelArray.result m c, ?_, ?_⟩
  · exact (θ_run Cert.KernelIdeal.defs _ _).mono
      (fun _ h c => ⟨(h c).1.trans (Cert.KernelArray.arr_eq m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    obtain ⟨p0, p1, p2, p3, p4, p5, p6⟩ := hpre c
    rw [Cert.RefForm.res_eq, h0, h1, h2, h3, h4, h5]
    exact Cert.Equation.result_eq m c (Cert.Inputs.rows _ _ _ _ _ _ p0) (Cert.Inputs.range _ _ _ _ _ _ p1)
      (Cert.Inputs.table _ _ _ _ _ _ p2) (Cert.Inputs.weights _ _ _ _ _ _ p3) (Cert.Inputs.offsets _ _ _ _ _ _ p4)
      (Cert.Inputs.scale _ _ _ _ _ _ p5) (Cert.Inputs.shift _ _ _ _ _ _ p6)

end Cert.Claims

end
-- ==== Proof.lean ====
module

public import proofs.«01_k».proof.Defs
public import proofs.«01_k».proof.Proof.Claims
public import proofs.«01_k».proof.Proof.PreFacts
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- All that the certificate claims. -/
theorem claim : Cert.Claim :=
  ⟨Cert.Kernel.Gen.facts, Cert.KernelIdeal.Gen.facts, Cert.ReferenceIdeal.Gen.facts, Cert.InputFacts.facts,
    Cert.Claims.frame_kernel, Cert.Claims.frame_ideal, Cert.Claims.frame_ideal_pre, Cert.Claims.frame_reference,
    Cert.Claims.frame_reference_pre, trivial, Cert.Claims.equal⟩

end Cert.Proof

end
